-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x7168 : Shape := ⟨3, ![6, 4096, 7168]⟩
abbrev S6x4096x56 : Shape := ⟨3, ![6, 4096, 56]⟩
abbrev S7168x5120 : Shape := ⟨2, ![7168, 5120]⟩
abbrev S56x40 : Shape := ⟨2, ![56, 40]⟩
abbrev S6x4096x5120 : Shape := ⟨3, ![6, 4096, 5120]⟩
abbrev S24576x7168 : Shape := ⟨2, ![24576, 7168]⟩
abbrev S24576x56 : Shape := ⟨2, ![24576, 56]⟩
abbrev S24576x5120 : Shape := ⟨2, ![24576, 5120]⟩
abbrev S1024x7168 : Shape := ⟨2, ![1024, 7168]⟩
abbrev S1024x56 : Shape := ⟨2, ![1024, 56]⟩
abbrev S7168x512 : Shape := ⟨2, ![7168, 512]⟩
abbrev S1024x512 : Shape := ⟨2, ![1024, 512]⟩
abbrev S1024x128 : Shape := ⟨2, ![1024, 128]⟩
abbrev S1024x1 : Shape := ⟨2, ![1024, 1]⟩
abbrev S1x1 : Shape := ⟨2, ![1, 1]⟩
abbrev S128x128 : Shape := ⟨2, ![128, 128]⟩

abbrev nBuf : Space → Nat
  | .hbm => 10
  | .vmem => 12
  | .smem => 1
  | _ => 0

abbrev bufTy : (tb : Table) → Fin (tcTables nBuf tb) → BufTy
  | .hbm, ⟨0, _⟩ => ⟨S6x4096x7168, .fp8e4m3⟩
  | .hbm, ⟨1, _⟩ => ⟨S6x4096x56, .i8⟩
  | .hbm, ⟨2, _⟩ => ⟨S7168x5120, .fp8e4m3⟩
  | .hbm, ⟨3, _⟩ => ⟨S56x40, .i8⟩
  | .hbm, ⟨4, _⟩ => ⟨S6x4096x5120, .bf16⟩
  | .hbm, ⟨5, _⟩ => ⟨S24576x7168, .fp8e4m3⟩
  | .hbm, ⟨6, _⟩ => ⟨S24576x56, .i8⟩
  | .hbm, ⟨7, _⟩ => ⟨S24576x5120, .bf16⟩
  | .hbm, ⟨8, _⟩ => ⟨S56x40, .i32⟩
  | .hbm, ⟨9, _⟩ => ⟨S24576x5120, .bf16⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x56, .i8⟩
  | .local _ .vmem, ⟨3, _⟩ => ⟨S1024x56, .i8⟩
  | .local _ .vmem, ⟨4, _⟩ => ⟨S7168x512, .fp8e4m3⟩
  | .local _ .vmem, ⟨5, _⟩ => ⟨S7168x512, .fp8e4m3⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x7168, .bf16⟩
  | .local _ .vmem, ⟨11, _⟩ => ⟨S7168x512, .bf16⟩
  | .local _ .smem, ⟨0, _⟩ => ⟨S56x40, .i32⟩
  | _, _ => ⟨S6x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 10], ![false, false]⟩

def k0_off1 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off2 (i : grid0.Coords) (c0_i32_25 : BitVec 32) : Fin 2 → Nat :=
  let c1 : Index := 1#32
  let arg1 : BitVec 32 := BitVec.ofNat 32 (i 1).val
  let c4_i32_24 : BitVec 32 := 4#32
  let v63 : BitVec 32 := Scalar.muli arg1 c4_i32_24
  let v64 : BitVec 32 := Scalar.addi v63 c0_i32_25
  let v65 : Index := Scalar.indexCast v64
  ![1, v65.toNat]
def k0_off3 (i : grid0.Coords) (c0_i32_56 : BitVec 32) : Fin 2 → Nat :=
  let c2 : Index := 2#32
  let arg1 : BitVec 32 := BitVec.ofNat 32 (i 1).val
  let c4_i32_55 : BitVec 32 := 4#32
  let v123 : BitVec 32 := Scalar.muli arg1 c4_i32_55
  let v124 : BitVec 32 := Scalar.addi v123 c0_i32_56
  let v125 : Index := Scalar.indexCast v124
  ![2, v125.toNat]
def k0_off4 (i : grid0.Coords) (c0_i32_87 : BitVec 32) : Fin 2 → Nat :=
  let c3 : Index := 3#32
  let arg1 : BitVec 32 := BitVec.ofNat 32 (i 1).val
  let c4_i32_86 : BitVec 32 := 4#32
  let v183 : BitVec 32 := Scalar.muli arg1 c4_i32_86
  let v184 : BitVec 32 := Scalar.addi v183 c0_i32_87
  let v185 : Index := Scalar.indexCast v184
  ![3, v185.toNat]
def k0_off5 (i : grid0.Coords) (c0_i32_118 : BitVec 32) : Fin 2 → Nat :=
  let c4 : Index := 4#32
  let arg1 : BitVec 32 := BitVec.ofNat 32 (i 1).val
  let c4_i32_117 : BitVec 32 := 4#32
  let v243 : BitVec 32 := Scalar.muli arg1 c4_i32_117
  let v244 : BitVec 32 := Scalar.addi v243 c0_i32_118
  let v245 : Index := Scalar.indexCast v244
  ![4, v245.toNat]
def k0_off6 (i : grid0.Coords) (c0_i32_148 : BitVec 32) : Fin 2 → Nat :=
  let c5 : Index := 5#32
  let arg1 : BitVec 32 := BitVec.ofNat 32 (i 1).val
  let c4_i32_147 : BitVec 32 := 4#32
  let v303 : BitVec 32 := Scalar.muli arg1 c4_i32_147
  let v304 : BitVec 32 := Scalar.addi v303 c0_i32_148
  let v305 : Index := Scalar.indexCast v304
  ![5, v305.toNat]
def k0_off7 (i : grid0.Coords) (c0_i32_178 : BitVec 32) : Fin 2 → Nat :=
  let c6 : Index := 6#32
  let arg1 : BitVec 32 := BitVec.ofNat 32 (i 1).val
  let c4_i32_177 : BitVec 32 := 4#32
  let v363 : BitVec 32 := Scalar.muli arg1 c4_i32_177
  let v364 : BitVec 32 := Scalar.addi v363 c0_i32_178
  let v365 : Index := Scalar.indexCast v364
  ![6, v365.toNat]
def k0_off8 (i : grid0.Coords) (c0_i32_208 : BitVec 32) : Fin 2 → Nat :=
  let c7 : Index := 7#32
  let arg1 : BitVec 32 := BitVec.ofNat 32 (i 1).val
  let c4_i32_207 : BitVec 32 := 4#32
  let v423 : BitVec 32 := Scalar.muli arg1 c4_i32_207
  let v424 : BitVec 32 := Scalar.addi v423 c0_i32_208
  let v425 : Index := Scalar.indexCast v424
  ![7, v425.toNat]
def k0_off9 (i : grid0.Coords) (c0_i32_238 : BitVec 32) : Fin 2 → Nat :=
  let c8 : Index := 8#32
  let arg1 : BitVec 32 := BitVec.ofNat 32 (i 1).val
  let c4_i32_237 : BitVec 32 := 4#32
  let v483 : BitVec 32 := Scalar.muli arg1 c4_i32_237
  let v484 : BitVec 32 := Scalar.addi v483 c0_i32_238
  let v485 : Index := Scalar.indexCast v484
  ![8, v485.toNat]
def k0_off10 (i : grid0.Coords) (c0_i32_268 : BitVec 32) : Fin 2 → Nat :=
  let c9 : Index := 9#32
  let arg1 : BitVec 32 := BitVec.ofNat 32 (i 1).val
  let c4_i32_267 : BitVec 32 := 4#32
  let v543 : BitVec 32 := Scalar.muli arg1 c4_i32_267
  let v544 : BitVec 32 := Scalar.addi v543 c0_i32_268
  let v545 : Index := Scalar.indexCast v544
  ![9, v545.toNat]
def k0_off11 (i : grid0.Coords) (c0_i32_298 : BitVec 32) : Fin 2 → Nat :=
  let c10 : Index := 10#32
  let arg1 : BitVec 32 := BitVec.ofNat 32 (i 1).val
  let c4_i32_297 : BitVec 32 := 4#32
  let v603 : BitVec 32 := Scalar.muli arg1 c4_i32_297
  let v604 : BitVec 32 := Scalar.addi v603 c0_i32_298
  let v605 : Index := Scalar.indexCast v604
  ![10, v605.toNat]
def k0_off12 (i : grid0.Coords) (c0_i32_328 : BitVec 32) : Fin 2 → Nat :=
  let c11 : Index := 11#32
  let arg1 : BitVec 32 := BitVec.ofNat 32 (i 1).val
  let c4_i32_327 : BitVec 32 := 4#32
  let v663 : BitVec 32 := Scalar.muli arg1 c4_i32_327
  let v664 : BitVec 32 := Scalar.addi v663 c0_i32_328
  let v665 : Index := Scalar.indexCast v664
  ![11, v665.toNat]
def k0_off13 (i : grid0.Coords) (c0_i32_358 : BitVec 32) : Fin 2 → Nat :=
  let c12 : Index := 12#32
  let arg1 : BitVec 32 := BitVec.ofNat 32 (i 1).val
  let c4_i32_357 : BitVec 32 := 4#32
  let v723 : BitVec 32 := Scalar.muli arg1 c4_i32_357
  let v724 : BitVec 32 := Scalar.addi v723 c0_i32_358
  let v725 : Index := Scalar.indexCast v724
  ![12, v725.toNat]
def k0_off14 (i : grid0.Coords) (c0_i32_388 : BitVec 32) : Fin 2 → Nat :=
  let c13 : Index := 13#32
  let arg1 : BitVec 32 := BitVec.ofNat 32 (i 1).val
  let c4_i32_387 : BitVec 32 := 4#32
  let v783 : BitVec 32 := Scalar.muli arg1 c4_i32_387
  let v784 : BitVec 32 := Scalar.addi v783 c0_i32_388
  let v785 : Index := Scalar.indexCast v784
  ![13, v785.toNat]
def k0_off15 (i : grid0.Coords) (c0_i32_418 : BitVec 32) : Fin 2 → Nat :=
  let c14 : Index := 14#32
  let arg1 : BitVec 32 := BitVec.ofNat 32 (i 1).val
  let c4_i32_417 : BitVec 32 := 4#32
  let v843 : BitVec 32 := Scalar.muli arg1 c4_i32_417
  let v844 : BitVec 32 := Scalar.addi v843 c0_i32_418
  let v845 : Index := Scalar.indexCast v844
  ![14, v845.toNat]
def k0_off16 (i : grid0.Coords) (c0_i32_448 : BitVec 32) : Fin 2 → Nat :=
  let c15 : Index := 15#32
  let arg1 : BitVec 32 := BitVec.ofNat 32 (i 1).val
  let c4_i32_447 : BitVec 32 := 4#32
  let v903 : BitVec 32 := Scalar.muli arg1 c4_i32_447
  let v904 : BitVec 32 := Scalar.addi v903 c0_i32_448
  let v905 : Index := Scalar.indexCast v904
  ![15, v905.toNat]
def k0_off17 (i : grid0.Coords) (c0_i32_478 : BitVec 32) : Fin 2 → Nat :=
  let c16 : Index := 16#32
  let arg1 : BitVec 32 := BitVec.ofNat 32 (i 1).val
  let c4_i32_477 : BitVec 32 := 4#32
  let v963 : BitVec 32 := Scalar.muli arg1 c4_i32_477
  let v964 : BitVec 32 := Scalar.addi v963 c0_i32_478
  let v965 : Index := Scalar.indexCast v964
  ![16, v965.toNat]
def k0_off18 (i : grid0.Coords) (c0_i32_508 : BitVec 32) : Fin 2 → Nat :=
  let c17 : Index := 17#32
  let arg1 : BitVec 32 := BitVec.ofNat 32 (i 1).val
  let c4_i32_507 : BitVec 32 := 4#32
  let v1023 : BitVec 32 := Scalar.muli arg1 c4_i32_507
  let v1024 : BitVec 32 := Scalar.addi v1023 c0_i32_508
  let v1025 : Index := Scalar.indexCast v1024
  ![17, v1025.toNat]
def k0_off19 (i : grid0.Coords) (c0_i32_538 : BitVec 32) : Fin 2 → Nat :=
  let c18 : Index := 18#32
  let arg1 : BitVec 32 := BitVec.ofNat 32 (i 1).val
  let c4_i32_537 : BitVec 32 := 4#32
  let v1083 : BitVec 32 := Scalar.muli arg1 c4_i32_537
  let v1084 : BitVec 32 := Scalar.addi v1083 c0_i32_538
  let v1085 : Index := Scalar.indexCast v1084
  ![18, v1085.toNat]
def k0_off20 (i : grid0.Coords) (c0_i32_568 : BitVec 32) : Fin 2 → Nat :=
  let c19 : Index := 19#32
  let arg1 : BitVec 32 := BitVec.ofNat 32 (i 1).val
  let c4_i32_567 : BitVec 32 := 4#32
  let v1143 : BitVec 32 := Scalar.muli arg1 c4_i32_567
  let v1144 : BitVec 32 := Scalar.addi v1143 c0_i32_568
  let v1145 : Index := Scalar.indexCast v1144
  ![19, v1145.toNat]
def k0_off21 (i : grid0.Coords) (c0_i32_598 : BitVec 32) : Fin 2 → Nat :=
  let c20 : Index := 20#32
  let arg1 : BitVec 32 := BitVec.ofNat 32 (i 1).val
  let c4_i32_597 : BitVec 32 := 4#32
  let v1203 : BitVec 32 := Scalar.muli arg1 c4_i32_597
  let v1204 : BitVec 32 := Scalar.addi v1203 c0_i32_598
  let v1205 : Index := Scalar.indexCast v1204
  ![20, v1205.toNat]
def k0_off22 (i : grid0.Coords) (c0_i32_628 : BitVec 32) : Fin 2 → Nat :=
  let c21 : Index := 21#32
  let arg1 : BitVec 32 := BitVec.ofNat 32 (i 1).val
  let c4_i32_627 : BitVec 32 := 4#32
  let v1263 : BitVec 32 := Scalar.muli arg1 c4_i32_627
  let v1264 : BitVec 32 := Scalar.addi v1263 c0_i32_628
  let v1265 : Index := Scalar.indexCast v1264
  ![21, v1265.toNat]
def k0_off23 (i : grid0.Coords) (c0_i32_658 : BitVec 32) : Fin 2 → Nat :=
  let c22 : Index := 22#32
  let arg1 : BitVec 32 := BitVec.ofNat 32 (i 1).val
  let c4_i32_657 : BitVec 32 := 4#32
  let v1323 : BitVec 32 := Scalar.muli arg1 c4_i32_657
  let v1324 : BitVec 32 := Scalar.addi v1323 c0_i32_658
  let v1325 : Index := Scalar.indexCast v1324
  ![22, v1325.toNat]
def k0_off24 (i : grid0.Coords) (c0_i32_688 : BitVec 32) : Fin 2 → Nat :=
  let c23 : Index := 23#32
  let arg1 : BitVec 32 := BitVec.ofNat 32 (i 1).val
  let c4_i32_687 : BitVec 32 := 4#32
  let v1383 : BitVec 32 := Scalar.muli arg1 c4_i32_687
  let v1384 : BitVec 32 := Scalar.addi v1383 c0_i32_688
  let v1385 : Index := Scalar.indexCast v1384
  ![23, v1385.toNat]
def k0_off25 (i : grid0.Coords) (c0_i32_718 : BitVec 32) : Fin 2 → Nat :=
  let c24 : Index := 24#32
  let arg1 : BitVec 32 := BitVec.ofNat 32 (i 1).val
  let c4_i32_717 : BitVec 32 := 4#32
  let v1443 : BitVec 32 := Scalar.muli arg1 c4_i32_717
  let v1444 : BitVec 32 := Scalar.addi v1443 c0_i32_718
  let v1445 : Index := Scalar.indexCast v1444
  ![24, v1445.toNat]
def k0_off26 (i : grid0.Coords) (c0_i32_748 : BitVec 32) : Fin 2 → Nat :=
  let c25 : Index := 25#32
  let arg1 : BitVec 32 := BitVec.ofNat 32 (i 1).val
  let c4_i32_747 : BitVec 32 := 4#32
  let v1503 : BitVec 32 := Scalar.muli arg1 c4_i32_747
  let v1504 : BitVec 32 := Scalar.addi v1503 c0_i32_748
  let v1505 : Index := Scalar.indexCast v1504
  ![25, v1505.toNat]
def k0_off27 (i : grid0.Coords) (c0_i32_778 : BitVec 32) : Fin 2 → Nat :=
  let c26 : Index := 26#32
  let arg1 : BitVec 32 := BitVec.ofNat 32 (i 1).val
  let c4_i32_777 : BitVec 32 := 4#32
  let v1563 : BitVec 32 := Scalar.muli arg1 c4_i32_777
  let v1564 : BitVec 32 := Scalar.addi v1563 c0_i32_778
  let v1565 : Index := Scalar.indexCast v1564
  ![26, v1565.toNat]
def k0_off28 (i : grid0.Coords) (c0_i32_808 : BitVec 32) : Fin 2 → Nat :=
  let c27 : Index := 27#32
  let arg1 : BitVec 32 := BitVec.ofNat 32 (i 1).val
  let c4_i32_807 : BitVec 32 := 4#32
  let v1623 : BitVec 32 := Scalar.muli arg1 c4_i32_807
  let v1624 : BitVec 32 := Scalar.addi v1623 c0_i32_808
  let v1625 : Index := Scalar.indexCast v1624
  ![27, v1625.toNat]
def k0_off29 (i : grid0.Coords) (c0_i32_838 : BitVec 32) : Fin 2 → Nat :=
  let c28 : Index := 28#32
  let arg1 : BitVec 32 := BitVec.ofNat 32 (i 1).val
  let c4_i32_837 : BitVec 32 := 4#32
  let v1683 : BitVec 32 := Scalar.muli arg1 c4_i32_837
  let v1684 : BitVec 32 := Scalar.addi v1683 c0_i32_838
  let v1685 : Index := Scalar.indexCast v1684
  ![28, v1685.toNat]
def k0_off30 (i : grid0.Coords) (c0_i32_868 : BitVec 32) : Fin 2 → Nat :=
  let c29 : Index := 29#32
  let arg1 : BitVec 32 := BitVec.ofNat 32 (i 1).val
  let c4_i32_867 : BitVec 32 := 4#32
  let v1743 : BitVec 32 := Scalar.muli arg1 c4_i32_867
  let v1744 : BitVec 32 := Scalar.addi v1743 c0_i32_868
  let v1745 : Index := Scalar.indexCast v1744
  ![29, v1745.toNat]
def k0_off31 (i : grid0.Coords) (c0_i32_898 : BitVec 32) : Fin 2 → Nat :=
  let c30 : Index := 30#32
  let arg1 : BitVec 32 := BitVec.ofNat 32 (i 1).val
  let c4_i32_897 : BitVec 32 := 4#32
  let v1803 : BitVec 32 := Scalar.muli arg1 c4_i32_897
  let v1804 : BitVec 32 := Scalar.addi v1803 c0_i32_898
  let v1805 : Index := Scalar.indexCast v1804
  ![30, v1805.toNat]
def k0_off32 (i : grid0.Coords) (c0_i32_928 : BitVec 32) : Fin 2 → Nat :=
  let c31 : Index := 31#32
  let arg1 : BitVec 32 := BitVec.ofNat 32 (i 1).val
  let c4_i32_927 : BitVec 32 := 4#32
  let v1863 : BitVec 32 := Scalar.muli arg1 c4_i32_927
  let v1864 : BitVec 32 := Scalar.addi v1863 c0_i32_928
  let v1865 : Index := Scalar.indexCast v1864
  ![31, v1865.toNat]
def k0_off33 (i : grid0.Coords) (c0_i32_958 : BitVec 32) : Fin 2 → Nat :=
  let c32 : Index := 32#32
  let arg1 : BitVec 32 := BitVec.ofNat 32 (i 1).val
  let c4_i32_957 : BitVec 32 := 4#32
  let v1923 : BitVec 32 := Scalar.muli arg1 c4_i32_957
  let v1924 : BitVec 32 := Scalar.addi v1923 c0_i32_958
  let v1925 : Index := Scalar.indexCast v1924
  ![32, v1925.toNat]
def k0_off34 (i : grid0.Coords) (c0_i32_988 : BitVec 32) : Fin 2 → Nat :=
  let c33 : Index := 33#32
  let arg1 : BitVec 32 := BitVec.ofNat 32 (i 1).val
  let c4_i32_987 : BitVec 32 := 4#32
  let v1983 : BitVec 32 := Scalar.muli arg1 c4_i32_987
  let v1984 : BitVec 32 := Scalar.addi v1983 c0_i32_988
  let v1985 : Index := Scalar.indexCast v1984
  ![33, v1985.toNat]
def k0_off35 (i : grid0.Coords) (c0_i32_1018 : BitVec 32) : Fin 2 → Nat :=
  let c34 : Index := 34#32
  let arg1 : BitVec 32 := BitVec.ofNat 32 (i 1).val
  let c4_i32_1017 : BitVec 32 := 4#32
  let v2043 : BitVec 32 := Scalar.muli arg1 c4_i32_1017
  let v2044 : BitVec 32 := Scalar.addi v2043 c0_i32_1018
  let v2045 : Index := Scalar.indexCast v2044
  ![34, v2045.toNat]
def k0_off36 (i : grid0.Coords) (c0_i32_1048 : BitVec 32) : Fin 2 → Nat :=
  let c35 : Index := 35#32
  let arg1 : BitVec 32 := BitVec.ofNat 32 (i 1).val
  let c4_i32_1047 : BitVec 32 := 4#32
  let v2103 : BitVec 32 := Scalar.muli arg1 c4_i32_1047
  let v2104 : BitVec 32 := Scalar.addi v2103 c0_i32_1048
  let v2105 : Index := Scalar.indexCast v2104
  ![35, v2105.toNat]
def k0_off37 (i : grid0.Coords) (c0_i32_1078 : BitVec 32) : Fin 2 → Nat :=
  let c36 : Index := 36#32
  let arg1 : BitVec 32 := BitVec.ofNat 32 (i 1).val
  let c4_i32_1077 : BitVec 32 := 4#32
  let v2163 : BitVec 32 := Scalar.muli arg1 c4_i32_1077
  let v2164 : BitVec 32 := Scalar.addi v2163 c0_i32_1078
  let v2165 : Index := Scalar.indexCast v2164
  ![36, v2165.toNat]
def k0_off38 (i : grid0.Coords) (c0_i32_1108 : BitVec 32) : Fin 2 → Nat :=
  let c37 : Index := 37#32
  let arg1 : BitVec 32 := BitVec.ofNat 32 (i 1).val
  let c4_i32_1107 : BitVec 32 := 4#32
  let v2223 : BitVec 32 := Scalar.muli arg1 c4_i32_1107
  let v2224 : BitVec 32 := Scalar.addi v2223 c0_i32_1108
  let v2225 : Index := Scalar.indexCast v2224
  ![37, v2225.toNat]
def k0_off39 (i : grid0.Coords) (c0_i32_1138 : BitVec 32) : Fin 2 → Nat :=
  let c38 : Index := 38#32
  let arg1 : BitVec 32 := BitVec.ofNat 32 (i 1).val
  let c4_i32_1137 : BitVec 32 := 4#32
  let v2283 : BitVec 32 := Scalar.muli arg1 c4_i32_1137
  let v2284 : BitVec 32 := Scalar.addi v2283 c0_i32_1138
  let v2285 : Index := Scalar.indexCast v2284
  ![38, v2285.toNat]
def k0_off40 (i : grid0.Coords) (c0_i32_1168 : BitVec 32) : Fin 2 → Nat :=
  let c39 : Index := 39#32
  let arg1 : BitVec 32 := BitVec.ofNat 32 (i 1).val
  let c4_i32_1167 : BitVec 32 := 4#32
  let v2343 : BitVec 32 := Scalar.muli arg1 c4_i32_1167
  let v2344 : BitVec 32 := Scalar.addi v2343 c0_i32_1168
  let v2345 : Index := Scalar.indexCast v2344
  ![39, v2345.toNat]
def k0_off41 (i : grid0.Coords) (c0_i32_1198 : BitVec 32) : Fin 2 → Nat :=
  let c40 : Index := 40#32
  let arg1 : BitVec 32 := BitVec.ofNat 32 (i 1).val
  let c4_i32_1197 : BitVec 32 := 4#32
  let v2403 : BitVec 32 := Scalar.muli arg1 c4_i32_1197
  let v2404 : BitVec 32 := Scalar.addi v2403 c0_i32_1198
  let v2405 : Index := Scalar.indexCast v2404
  ![40, v2405.toNat]
def k0_off42 (i : grid0.Coords) (c0_i32_1228 : BitVec 32) : Fin 2 → Nat :=
  let c41 : Index := 41#32
  let arg1 : BitVec 32 := BitVec.ofNat 32 (i 1).val
  let c4_i32_1227 : BitVec 32 := 4#32
  let v2463 : BitVec 32 := Scalar.muli arg1 c4_i32_1227
  let v2464 : BitVec 32 := Scalar.addi v2463 c0_i32_1228
  let v2465 : Index := Scalar.indexCast v2464
  ![41, v2465.toNat]
def k0_off43 (i : grid0.Coords) (c0_i32_1258 : BitVec 32) : Fin 2 → Nat :=
  let c42 : Index := 42#32
  let arg1 : BitVec 32 := BitVec.ofNat 32 (i 1).val
  let c4_i32_1257 : BitVec 32 := 4#32
  let v2523 : BitVec 32 := Scalar.muli arg1 c4_i32_1257
  let v2524 : BitVec 32 := Scalar.addi v2523 c0_i32_1258
  let v2525 : Index := Scalar.indexCast v2524
  ![42, v2525.toNat]
def k0_off44 (i : grid0.Coords) (c0_i32_1288 : BitVec 32) : Fin 2 → Nat :=
  let c43 : Index := 43#32
  let arg1 : BitVec 32 := BitVec.ofNat 32 (i 1).val
  let c4_i32_1287 : BitVec 32 := 4#32
  let v2583 : BitVec 32 := Scalar.muli arg1 c4_i32_1287
  let v2584 : BitVec 32 := Scalar.addi v2583 c0_i32_1288
  let v2585 : Index := Scalar.indexCast v2584
  ![43, v2585.toNat]
def k0_off45 (i : grid0.Coords) (c0_i32_1318 : BitVec 32) : Fin 2 → Nat :=
  let c44 : Index := 44#32
  let arg1 : BitVec 32 := BitVec.ofNat 32 (i 1).val
  let c4_i32_1317 : BitVec 32 := 4#32
  let v2643 : BitVec 32 := Scalar.muli arg1 c4_i32_1317
  let v2644 : BitVec 32 := Scalar.addi v2643 c0_i32_1318
  let v2645 : Index := Scalar.indexCast v2644
  ![44, v2645.toNat]
def k0_off46 (i : grid0.Coords) (c0_i32_1348 : BitVec 32) : Fin 2 → Nat :=
  let c45 : Index := 45#32
  let arg1 : BitVec 32 := BitVec.ofNat 32 (i 1).val
  let c4_i32_1347 : BitVec 32 := 4#32
  let v2703 : BitVec 32 := Scalar.muli arg1 c4_i32_1347
  let v2704 : BitVec 32 := Scalar.addi v2703 c0_i32_1348
  let v2705 : Index := Scalar.indexCast v2704
  ![45, v2705.toNat]
def k0_off47 (i : grid0.Coords) (c0_i32_1378 : BitVec 32) : Fin 2 → Nat :=
  let c46 : Index := 46#32
  let arg1 : BitVec 32 := BitVec.ofNat 32 (i 1).val
  let c4_i32_1377 : BitVec 32 := 4#32
  let v2763 : BitVec 32 := Scalar.muli arg1 c4_i32_1377
  let v2764 : BitVec 32 := Scalar.addi v2763 c0_i32_1378
  let v2765 : Index := Scalar.indexCast v2764
  ![46, v2765.toNat]
def k0_off48 (i : grid0.Coords) (c0_i32_1408 : BitVec 32) : Fin 2 → Nat :=
  let c47 : Index := 47#32
  let arg1 : BitVec 32 := BitVec.ofNat 32 (i 1).val
  let c4_i32_1407 : BitVec 32 := 4#32
  let v2823 : BitVec 32 := Scalar.muli arg1 c4_i32_1407
  let v2824 : BitVec 32 := Scalar.addi v2823 c0_i32_1408
  let v2825 : Index := Scalar.indexCast v2824
  ![47, v2825.toNat]
def k0_off49 (i : grid0.Coords) (c0_i32_1438 : BitVec 32) : Fin 2 → Nat :=
  let c48 : Index := 48#32
  let arg1 : BitVec 32 := BitVec.ofNat 32 (i 1).val
  let c4_i32_1437 : BitVec 32 := 4#32
  let v2883 : BitVec 32 := Scalar.muli arg1 c4_i32_1437
  let v2884 : BitVec 32 := Scalar.addi v2883 c0_i32_1438
  let v2885 : Index := Scalar.indexCast v2884
  ![48, v2885.toNat]
def k0_off50 (i : grid0.Coords) (c0_i32_1468 : BitVec 32) : Fin 2 → Nat :=
  let c49 : Index := 49#32
  let arg1 : BitVec 32 := BitVec.ofNat 32 (i 1).val
  let c4_i32_1467 : BitVec 32 := 4#32
  let v2943 : BitVec 32 := Scalar.muli arg1 c4_i32_1467
  let v2944 : BitVec 32 := Scalar.addi v2943 c0_i32_1468
  let v2945 : Index := Scalar.indexCast v2944
  ![49, v2945.toNat]
def k0_off51 (i : grid0.Coords) (c0_i32_1498 : BitVec 32) : Fin 2 → Nat :=
  let c50 : Index := 50#32
  let arg1 : BitVec 32 := BitVec.ofNat 32 (i 1).val
  let c4_i32_1497 : BitVec 32 := 4#32
  let v3003 : BitVec 32 := Scalar.muli arg1 c4_i32_1497
  let v3004 : BitVec 32 := Scalar.addi v3003 c0_i32_1498
  let v3005 : Index := Scalar.indexCast v3004
  ![50, v3005.toNat]
def k0_off52 (i : grid0.Coords) (c0_i32_1528 : BitVec 32) : Fin 2 → Nat :=
  let c51 : Index := 51#32
  let arg1 : BitVec 32 := BitVec.ofNat 32 (i 1).val
  let c4_i32_1527 : BitVec 32 := 4#32
  let v3063 : BitVec 32 := Scalar.muli arg1 c4_i32_1527
  let v3064 : BitVec 32 := Scalar.addi v3063 c0_i32_1528
  let v3065 : Index := Scalar.indexCast v3064
  ![51, v3065.toNat]
def k0_off53 (i : grid0.Coords) (c0_i32_1558 : BitVec 32) : Fin 2 → Nat :=
  let c52 : Index := 52#32
  let arg1 : BitVec 32 := BitVec.ofNat 32 (i 1).val
  let c4_i32_1557 : BitVec 32 := 4#32
  let v3123 : BitVec 32 := Scalar.muli arg1 c4_i32_1557
  let v3124 : BitVec 32 := Scalar.addi v3123 c0_i32_1558
  let v3125 : Index := Scalar.indexCast v3124
  ![52, v3125.toNat]
def k0_off54 (i : grid0.Coords) (c0_i32_1588 : BitVec 32) : Fin 2 → Nat :=
  let c53 : Index := 53#32
  let arg1 : BitVec 32 := BitVec.ofNat 32 (i 1).val
  let c4_i32_1587 : BitVec 32 := 4#32
  let v3183 : BitVec 32 := Scalar.muli arg1 c4_i32_1587
  let v3184 : BitVec 32 := Scalar.addi v3183 c0_i32_1588
  let v3185 : Index := Scalar.indexCast v3184
  ![53, v3185.toNat]
def k0_off55 (i : grid0.Coords) (c0_i32_1618 : BitVec 32) : Fin 2 → Nat :=
  let c54 : Index := 54#32
  let arg1 : BitVec 32 := BitVec.ofNat 32 (i 1).val
  let c4_i32_1617 : BitVec 32 := 4#32
  let v3243 : BitVec 32 := Scalar.muli arg1 c4_i32_1617
  let v3244 : BitVec 32 := Scalar.addi v3243 c0_i32_1618
  let v3245 : Index := Scalar.indexCast v3244
  ![54, v3245.toNat]
def k0_off56 (i : grid0.Coords) (c0_i32_1648 : BitVec 32) : Fin 2 → Nat :=
  let c55 : Index := 55#32
  let arg1 : BitVec 32 := BitVec.ofNat 32 (i 1).val
  let c4_i32_1647 : BitVec 32 := 4#32
  let v3303 : BitVec 32 := Scalar.muli arg1 c4_i32_1647
  let v3304 : BitVec 32 := Scalar.addi v3303 c0_i32_1648
  let v3305 : Index := Scalar.indexCast v3304
  ![55, v3305.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x56 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S56x40 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6x4096x7168 : Shape := ⟨3, ![6, 4096, 7168]⟩
abbrev S6x4096x56 : Shape := ⟨3, ![6, 4096, 56]⟩
abbrev S7168x5120 : Shape := ⟨2, ![7168, 5120]⟩
abbrev S56x40 : Shape := ⟨2, ![56, 40]⟩
abbrev S6x4096x5120 : Shape := ⟨3, ![6, 4096, 5120]⟩
abbrev S24576x5120 : Shape := ⟨2, ![24576, 5120]⟩
abbrev S6x4096x56x128 : Shape := ⟨4, ![6, 4096, 56, 128]⟩
abbrev S6x4096x56x1 : Shape := ⟨4, ![6, 4096, 56, 1]⟩
abbrev S56x128x40x128 : Shape := ⟨4, ![56, 128, 40, 128]⟩
abbrev S56x1x40x1 : Shape := ⟨4, ![56, 1, 40, 1]⟩

abbrev nBuf : Space → Nat
  | .hbm => 6
  | .vmem => 6
  | .smem => 0
  | _ => 0

abbrev bufTy : (tb : Table) → Fin (tcTables nBuf tb) → BufTy
  | .hbm, ⟨0, _⟩ => ⟨S6x4096x7168, .fp8e4m3⟩
  | .hbm, ⟨1, _⟩ => ⟨S6x4096x56, .i8⟩
  | .hbm, ⟨2, _⟩ => ⟨S7168x5120, .fp8e4m3⟩
  | .hbm, ⟨3, _⟩ => ⟨S56x40, .i8⟩
  | .hbm, ⟨4, _⟩ => ⟨S6x4096x5120, .bf16⟩
  | .hbm, ⟨5, _⟩ => ⟨S24576x5120, .bf16⟩
  | .local _ .vmem, ⟨0, _⟩ => ⟨S6x4096x7168, .fp8e4m3⟩
  | .local _ .vmem, ⟨1, _⟩ => ⟨S6x4096x56, .i8⟩
  | .local _ .vmem, ⟨2, _⟩ => ⟨S7168x5120, .fp8e4m3⟩
  | .local _ .vmem, ⟨3, _⟩ => ⟨S56x40, .i8⟩
  | .local _ .vmem, ⟨4, _⟩ => ⟨S6x4096x5120, .bf16⟩
  | .local _ .vmem, ⟨5, _⟩ => ⟨S24576x5120, .bf16⟩
  | _, _ => ⟨S6x4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x56 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x40 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/- The scale an exponent byte stands for. The kernel shifts the byte into the exponent field of a 32-bit word and reads the
   word as a float; the reference takes two to the unbiased exponent and puts 0 below float32's normal range and infinity
   above it. `decode_eq_scale` says that the two are one number, at each of the 256 bytes. -/
module

public import Idealize.ShloMosaic.PureOps.Ideal.Laws
public import Idealize.ShloMosaic.Lib.Pointwise

@[expose] public section

noncomputable section

namespace Cert.Proof

open Idealize.ShloMosaic

/-- The float whose exponent field is the byte `v` and whose other bits are zero. -/
def scale (v : BitVec 8) : EReal := Ideal.ofBits .f32 (IntOp.shli .vector (BitVec.setWidth 32 v) 23#32)

/-- Two to the power `v - 127`, with 0 for an exponent under -126 and infinity for one over 127. -/
def decode (v : BitVec 8) : EReal :=
  Scalar.select (IntOp.cmpi .slt (IntOp.subi (BitVec.setWidth 32 v) 127#32) 4294967170#32) 0
    (Scalar.select (IntOp.cmpi .sgt (IntOp.subi (BitVec.setWidth 32 v) 127#32) 127#32) (Ideal.ofBits .f32 2139095040#32)
      (FloatOps.exp2 (F := Ideal) (φ := .f32) (FloatOps.sitofp (F := Ideal) .f32 (IntOp.subi (BitVec.setWidth 32 v) 127#32))))

/-- The shifted byte: its sign bit is clear, its exponent field is the byte, its significand field is zero. -/
theorem fields (v : BitVec 8) :
    ((IntOp.shli .vector (BitVec.setWidth 32 v) 23#32).extractLsb' 31 1 == 1#1) = false
      ∧ ((IntOp.shli .vector (BitVec.setWidth 32 v) 23#32).extractLsb' 23 8).toNat = v.toNat
      ∧ ((IntOp.shli .vector (BitVec.setWidth 32 v) 23#32).extractLsb' 0 23).toNat = 0 := by
  revert v; decide

/-- The unbiased exponent, and the two range tests on it. -/
theorem exponent (v : BitVec 8) :
    (IntOp.subi (BitVec.setWidth 32 v) 127#32).toInt = (v.toNat : ℤ) - 127
      ∧ (IntOp.cmpi .slt (IntOp.subi (BitVec.setWidth 32 v) 127#32) 4294967170#32 = 1 ↔ v.toNat = 0)
      ∧ (IntOp.cmpi .sgt (IntOp.subi (BitVec.setWidth 32 v) 127#32) 127#32 = 1 ↔ v.toNat = 255) := by
  revert v; decide

/-- The word `0x7F800000` is infinity. -/
theorem ofBits_inf : Ideal.ofBits .f32 2139095040#32 = ⊤ := by
  simp [Ideal.ofBits, Ideal.ieee]

/-- The significand `2 ^ 23` against the exponent's bias of `23` more: a power of two. -/
theorem normal_eq (n : ℕ) : ((1 : ℝ) * ((2 ^ 23 + 0 : ℕ) : ℝ) * (2 : ℝ) ^ ((n : ℤ) - (2 ^ (8 - 1) - 1) - (23 : ℕ))) = (2 : ℝ) ^ ((n : ℤ) - 127) := by
  rw [one_mul, Nat.add_zero, Nat.cast_pow, Nat.cast_ofNat, ← zpow_natCast, ← zpow_add₀ (by norm_num : (2 : ℝ) ≠ 0)]
  congr 1
  ring

/-- The kernel's scale in closed form: infinity at 255, zero at 0, a power of two in between. -/
theorem scale_eq (v : BitVec 8) :
    scale v = if v.toNat = 255 then (⊤ : EReal) else if v.toNat = 0 then 0 else (((2 : ℝ) ^ ((v.toNat : ℤ) - 127) : ℝ) : EReal) := by
  obtain ⟨hn, he, hf⟩ := fields v
  unfold scale
  show Ideal.ieee 8 23 _ = _
  unfold Ideal.ieee
  simp only [hn, he, hf, show (8 + 23 : Nat) = 31 from rfl]
  refine if_congr (Iff.of_eq rfl) rfl (if_congr Iff.rfl ?_ ?_)
  · rw [Nat.cast_zero, mul_zero, zero_mul, EReal.coe_zero]
  · rw [if_neg Bool.false_ne_true, normal_eq]

/-- Two to the power of the unbiased exponent. -/
theorem exp2_eq (v : BitVec 8) :
    FloatOps.exp2 (F := Ideal) (φ := .f32) (FloatOps.sitofp (F := Ideal) .f32 (IntOp.subi (BitVec.setWidth 32 v) 127#32))
      = (((2 : ℝ) ^ ((v.toNat : ℤ) - 127) : ℝ) : EReal) := by
  show Ideal.exp2 (((IntOp.subi (BitVec.setWidth 32 v) 127#32).toInt : ℝ) : EReal) = _
  rw [(exponent v).1]
  exact congrArg Real.toEReal (Real.rpow_intCast 2 _)

/-- The reference's decoding of an exponent byte is the kernel's. -/
theorem decode_eq_scale (v : BitVec 8) : decode v = scale v := by
  obtain ⟨-, hlo, hhi⟩ := exponent v
  rw [scale_eq, decode, exp2_eq, ofBits_inf]
  unfold Scalar.select
  by_cases h0 : v.toNat = 0
  · rw [if_pos (hlo.mpr h0), if_neg (by omega), if_pos h0]
  · rw [if_neg (mt hlo.mp h0)]
    by_cases h1 : v.toNat = 255
    · rw [if_pos (hhi.mpr h1), if_pos h1]
    · rw [if_neg (mt hhi.mp h1), if_neg h1, if_neg h0]

end Cert.Proof

end
-- ==== Proof.Block.lean ====
/- What one grid point of the kernel computes. The two scratch buffers are filled block by block: each stored block is the
   block of one whole array, the codes times their scales, so that after the stores the buffer holds that array. The
   output block is the product of the two arrays plus the residual's block. -/
module

public import proofs.«01_k».proof.Proof.Gen.KernelIdeal.Value
public import proofs.«01_k».proof.Proof.Scale
public import Idealize.ShloMosaic.Lib.Pointwise
public import Idealize.ShloMosaic.Lib.WholeRead
public import Idealize.ShloMosaic.Lib.Pipeline.ReadBack

@[expose] public section

set_option maxRecDepth 16384

noncomputable section

namespace Cert.Proof

open Idealize.ShloMosaic Idealize.ShloMosaic.TcCoe Idealize.ShloMosaic.Tactic
open Cert.KernelIdeal Cert.KernelIdeal.Gen

/-- A word's scale: the float whose bits are the word shifted left by the 23 significand bits. -/
def scaleWord (e : BitVec 32) : EReal := Ideal.ofBits .f32 (IntOp.shli .vector e 23#32)

/-- The activations of one block of rows with their scales multiplied in: column `k` takes the scale of group `k / 128`. -/
def xDeq (x0 : Vec Ideal S1024x7168 .fp8e4m3) (x1 : Vec Ideal S1024x56 .i8) : Vec Ideal S1024x7168 .bf16 := fun y =>
  x0 y * scale (x1 (ix2 (y 0) ⟨(y 1).val / 128, by have := (y 1).isLt; show _ < 56; simp at this; omega⟩))

/-- The weights of block `j` of 512 columns with their scales multiplied in: the entry at (k, n) takes the scale of the
    128 by 128 tile at (k / 128, 4 j + n / 128). -/
def wDeq (j : Fin 10) (x2 : Vec Ideal S7168x512 .fp8e4m3) (x3 : Vec Ideal S56x40 .i32) : Vec Ideal S7168x512 .bf16 := fun y =>
  x2 y * scaleWord (x3 (ix2 ⟨(y 0).val / 128, by have := (y 0).isLt; show _ < 56; simp at this; omega⟩
    ⟨4 * j.val + (y 1).val / 128, by have := (y 1).isLt; have := j.isLt; show _ < 40; simp at *; omega⟩))

/-- `xDeq` at a row and a column. -/
theorem xDeq_apply (x0 : Vec Ideal S1024x7168 .fp8e4m3) (x1 : Vec Ideal S1024x56 .i8) (r : Fin 1024) (k : Fin 7168) :
    xDeq x0 x1 (ix2 r k) = x0 (ix2 r k) * scale (x1 (ix2 r ⟨k.val / 128, by omega⟩)) := rfl

/-- `wDeq` at a row and a column. -/
theorem wDeq_apply (j : Fin 10) (x2 : Vec Ideal S7168x512 .fp8e4m3) (x3 : Vec Ideal S56x40 .i32) (k : Fin 7168) (n : Fin 512) :
    wDeq j x2 x3 (ix2 k n) = x2 (ix2 k n) * scaleWord (x3 (ix2 ⟨k.val / 128, by omega⟩ ⟨4 * j.val + n.val / 128, by omega⟩)) := rfl

/-- A stored tile of weights is the tile of `wDeq` at its place: the codes are read at the tile, the one scale at the tile's
    row and column among the tiles. -/
theorem wTile (i : grid0.Coords) (arg4 : Memref sig .tc .vmem S7168x512 .fp8e4m3) (harg4 : arg4.IsWhole)
    (arg5 : Memref sig .tc .smem S56x40 .i32) (harg5 : arg5.IsWhole)
    (x2 : Vec Ideal S7168x512 .fp8e4m3) (x3 : Vec Ideal S56x40 .i32)
    (r c : ℕ) (inb : ∀ a, (![r, c] : Fin 2 → ℕ) a + S128x128.size a ≤ S7168x512.size a)
    (off : Fin 2 → ℕ) [h : ClosedOff off] (inb' : ∀ a, off a + S1x1.size a ≤ S56x40.size a) (u : S1x1.Idx)
    (hr : r % 128 = 0) (hc : c % 128 = 0) (ho : h.form = ![r / 128, 4 * (i 1).val + c / 128])
    (x : S128x128.Idx) :
    k0_pay72 (F := Ideal) (View.readAt (Elt Ideal) arg5.view (Rect.unit (s := S56x40) off S1x1.size inb').toLoadRect (harg5.unread x3) u)
        (View.readAt (Elt Ideal) arg4.view (Rect.unit (s := S7168x512) ![r, c] S128x128.size inb).toLoadRect (harg4.unread x2)) x
      = wDeq (i 1) x2 x3 ((Rect.unit (s := S7168x512) ![r, c] S128x128.size inb).emb x) := by
  pointwise [k0_pay72]
  rw [harg5.readAt_unread, harg4.readAt_unread]
  have e0 : off 0 = r / 128 := by rw [h.eq, ho]; rfl
  have e1 : off 1 = 4 * (i 1).val + c / 128 := by rw [h.eq, ho]; rfl
  have hu : ∀ a, (u a).val = 0 := fun a => by have := (u a).isLt; fin_cases a <;> simp at this ⊢ <;> omega
  have h0 : (x 0).val < 128 := (x 0).isLt
  have h1 : (x 1).val < 128 := (x 1).isLt
  show _ * scaleWord _ = x2 _ * scaleWord _
  refine congrArg₂ (· * ·) rfl (congrArg scaleWord (congrArg x3 ?_))
  funext a
  refine Fin.ext ?_
  fin_cases a
  · show off 0 + 1 * (u 0).val = (r + 1 * (x 0).val) / 128
    rw [hu, e0]; omega
  · show off 1 + 1 * (u 1).val = 4 * (i 1).val + (c + 1 * (x 1).val) / 128
    rw [hu, e1]; omega

/-- Every tile stored into the weight scratch is a tile of `wDeq`. -/
theorem wPieces (c : Dev nD) (i : grid0.Coords) (arg4 : Memref sig .tc .vmem S7168x512 .fp8e4m3) (harg4 : arg4.IsWhole)
    (arg5 : Memref sig .tc .smem S56x40 .i32) (harg5 : arg5.IsWhole)
    (x2 : Vec Ideal S7168x512 .fp8e4m3) (x3 : Vec Ideal S56x40 .i32) :
    View.PiecesOf (wDeq (i 1) x2 x3) (kernelRun0_B.sl.HS1_224 (F := Ideal) c i arg4 harg4 arg5 harg5 x2 x3) := by
  unfold kernelRun0_B.sl.HS1_224
  iterate 224 refine ⟨fun x => wTile i arg4 harg4 arg5 harg5 x2 x3 _ _ _ _ _ _ (by rfl) (by rfl) (by rfl) x, ?_⟩
  trivial

/-- The two cases of the body store the same tiles into the weight scratch. -/
theorem wPieces_A (c : Dev nD) (i : grid0.Coords) (arg4 : Memref sig .tc .vmem S7168x512 .fp8e4m3) (harg4 : arg4.IsWhole)
    (arg5 : Memref sig .tc .smem S56x40 .i32) (harg5 : arg5.IsWhole)
    (x2 : Vec Ideal S7168x512 .fp8e4m3) (x3 : Vec Ideal S56x40 .i32) :
    kernelRun0_A.sl.HS1_224 (F := Ideal) c i arg4 harg4 arg5 harg5 x2 x3 = kernelRun0_B.sl.HS1_224 (F := Ideal) c i arg4 harg4 arg5 harg5 x2 x3 := rfl

/-- A stored block of 128 columns of activations is the block of `xDeq` at its place. -/
theorem xTile (arg2 : Memref sig .tc .vmem S1024x7168 .fp8e4m3) (harg2 : arg2.IsWhole)
    (arg3 : Memref sig .tc .vmem S1024x56 .i8) (harg3 : arg3.IsWhole)
    (x0 : Vec Ideal S1024x7168 .fp8e4m3) (x1 : Vec Ideal S1024x56 .i8)
    (k : ℕ) (inb : ∀ a, (![0, k] : Fin 2 → ℕ) a + S1024x128.size a ≤ S1024x7168.size a)
    (inb' : ∀ a, (![0, 0] : Fin 2 → ℕ) a + S1024x56.size a ≤ S1024x56.size a)
    (g : ℕ) (hs : S1024x56.Slices ![0, g] S1024x1) (hk : k = 128 * g) (x : S1024x128.Idx) :
    shapeCast S1024x128 (mulf (F := Ideal) (φ := .bf16)
          (extf .bf16 (shapeCast S1024x128 (View.readAt (Elt Ideal) arg2.view (Rect.unit (s := S1024x7168) ![0, k] S1024x128.size inb).toLoadRect (harg2.unread x0)) shapeCasts_S1024x128_S1024x128) bitsLt_fp8e4m3_bf16)
          (broadcastTo S1024x128
            (extractStridedSlice S1024x1 ![0, g]
              (k0_pay1 (View.readAt (Elt Ideal) arg3.view (Rect.unit (s := S1024x56) ![0, 0] S1024x56.size inb').toLoadRect (harg3.unread x1))) hs)
            broadcasts_S1024x1_S1024x128)) shapeCasts_S1024x128_S1024x128 x
      = xDeq x0 x1 ((Rect.unit (s := S1024x7168) ![0, k] S1024x128.size inb).emb x) := by
  have h1 : (x 1).val < 128 := (x 1).isLt
  pointwise [k0_pay1]
  rw [harg2.readAt_unread, harg3.readAt_unread]
  show _ * scale _ = x0 _ * scale _
  refine congrArg₂ (· * ·) rfl (congrArg scale (congrArg x1 ?_))
  funext a
  refine Fin.ext ?_
  fin_cases a
  · show 0 + 1 * (x 0).val = 0 + 1 * (x 0).val
    rfl
  · show 0 + 1 * g = (k + 1 * (x 1).val) / 128
    omega

/-- The block at column 2048, whose payload is written in two steps. -/
theorem xTile_16 (c : Dev nD) (arg2 : Memref sig .tc .vmem S1024x7168 .fp8e4m3) (harg2 : arg2.IsWhole)
    (arg3 : Memref sig .tc .vmem S1024x56 .i8) (harg3 : arg3.IsWhole)
    (x0 : Vec Ideal S1024x7168 .fp8e4m3) (x1 : Vec Ideal S1024x56 .i8) (x : S1024x128.Idx) :
    k0_pay22 (F := Ideal) (kernelRun0_A.sl.r_3 c arg2 harg2 x0) (kernelRun0_A.sl.r_4 c arg3 harg3 x1) x
      = xDeq x0 x1 ((Rect.unit (s := S1024x7168) ![0, 2048] S1024x128.size inb_S1024x7168_S1024x128_0_2048).emb x) := by
  unfold k0_pay22 kernelRun0_A.sl.r_3 kernelRun0_A.sl.r_4 k0_pay20 k0_pay21 kernelRun0_A.sl.r
  exact xTile arg2 harg2 arg3 harg3 x0 x1 2048 _ _ 16 _ rfl x

/-- The block at column 5888, whose payload is written in two steps. -/
theorem xTile_46 (c : Dev nD) (arg2 : Memref sig .tc .vmem S1024x7168 .fp8e4m3) (harg2 : arg2.IsWhole)
    (arg3 : Memref sig .tc .vmem S1024x56 .i8) (harg3 : arg3.IsWhole)
    (x0 : Vec Ideal S1024x7168 .fp8e4m3) (x1 : Vec Ideal S1024x56 .i8) (x : S1024x128.Idx) :
    k0_pay58 (F := Ideal) (kernelRun0_A.sl.r_9 c arg2 harg2 x0) (kernelRun0_A.sl.r_10 c arg3 harg3 x1) x
      = xDeq x0 x1 ((Rect.unit (s := S1024x7168) ![0, 5888] S1024x128.size inb_S1024x7168_S1024x128_0_5888).emb x) := by
  unfold k0_pay58 kernelRun0_A.sl.r_9 kernelRun0_A.sl.r_10 k0_pay56 k0_pay57 kernelRun0_A.sl.r
  exact xTile arg2 harg2 arg3 harg3 x0 x1 5888 _ _ 46 _ rfl x

/-- Every block stored into the activation scratch is a block of `xDeq`. -/
theorem xPieces (c : Dev nD) (arg2 : Memref sig .tc .vmem S1024x7168 .fp8e4m3) (harg2 : arg2.IsWhole)
    (arg3 : Memref sig .tc .vmem S1024x56 .i8) (harg3 : arg3.IsWhole)
    (x0 : Vec Ideal S1024x7168 .fp8e4m3) (x1 : Vec Ideal S1024x56 .i8) :
    View.PiecesOf (xDeq x0 x1) (kernelRun0_A.sl.HS0_56 (F := Ideal) c arg2 harg2 arg3 harg3 x0 x1) := by
  unfold kernelRun0_A.sl.HS0_56
  iterate 9 refine ⟨fun x => xTile arg2 harg2 arg3 harg3 x0 x1 _ _ _ _ _ (by rfl) x, ?_⟩
  refine ⟨fun x => xTile_46 c arg2 harg2 arg3 harg3 x0 x1 x, ?_⟩
  iterate 29 refine ⟨fun x => xTile arg2 harg2 arg3 harg3 x0 x1 _ _ _ _ _ (by rfl) x, ?_⟩
  refine ⟨fun x => xTile_16 c arg2 harg2 arg3 harg3 x0 x1 x, ?_⟩
  iterate 16 refine ⟨fun x => xTile arg2 harg2 arg3 harg3 x0 x1 _ _ _ _ _ (by rfl) x, ?_⟩
  trivial

/-- The whole weight scratch, read after its tiles are stored, is `wDeq`. -/
theorem wRead (c : Dev nD) (i : grid0.Coords) (arg4 : Memref sig .tc .vmem S7168x512 .fp8e4m3) (harg4 : arg4.IsWhole)
    (arg5 : Memref sig .tc .smem S56x40 .i32) (harg5 : arg5.IsWhole) (arg9 : Memref sig .tc .vmem S7168x512 .bf16)
    (x2 : Vec Ideal S7168x512 .fp8e4m3) (x3 : Vec Ideal S56x40 .i32) :
    kernelRun0_B.sl.v3364 (F := Ideal) c i arg4 harg4 arg5 harg5 arg9 x2 x3 = wDeq (i 1) x2 x3 := by
  unfold kernelRun0_B.sl.v3364
  rw [View.readCov_eq_canon_ld _ _ (Rect.unit ![0, 0] S7168x512.size inb_S7168x512_S7168x512_0_0)
    (View.cover_of_tiledL _ S128x128.size (by sl_kernel_rfl))]
  rw [View.ld_unit_zero (by funext a; fin_cases a <;> rfl)]
  funext y
  exact View.canon_apply_of_pieces _ _ (wPieces c i arg4 harg4 arg5 harg5 x2 x3).mem y
    (View.cover_of_tiledL (kernelRun0_B.sl.HS1_224 (F := Ideal) c i arg4 harg4 arg5 harg5 x2 x3) S128x128.size (by sl_kernel_rfl) y)

/-- The blocks stored into the activation scratch cover it. -/
theorem xCover (c : Dev nD) (arg2 : Memref sig .tc .vmem S1024x7168 .fp8e4m3) (harg2 : arg2.IsWhole)
    (arg3 : Memref sig .tc .vmem S1024x56 .i8) (harg3 : arg3.IsWhole)
    (x0 : Vec Ideal S1024x7168 .fp8e4m3) (x1 : Vec Ideal S1024x56 .i8) (y : S1024x7168.Idx) :
    ∃ p ∈ kernelRun0_A.sl.HS0_56 (F := Ideal) c arg2 harg2 arg3 harg3 x0 x1, y ∈ p.1.set :=
  View.cover_of_tiledL (kernelRun0_A.sl.HS0_56 (F := Ideal) c arg2 harg2 arg3 harg3 x0 x1) S1024x128.size (by sl_kernel_rfl) y

/-- What the stores of activation blocks leave in the scratch is `xDeq`. -/
theorem xCanon (c : Dev nD) (arg2 : Memref sig .tc .vmem S1024x7168 .fp8e4m3) (harg2 : arg2.IsWhole)
    (arg3 : Memref sig .tc .vmem S1024x56 .i8) (harg3 : arg3.IsWhole)
    (x0 : Vec Ideal S1024x7168 .fp8e4m3) (x1 : Vec Ideal S1024x56 .i8) :
    View.canon (Val := Elt Ideal) (kernelRun0_A.sl.HS0_56 (F := Ideal) c arg2 harg2 arg3 harg3 x0 x1) = xDeq x0 x1 := by
  funext y
  exact View.canon_apply_of_pieces _ _ (xPieces c arg2 harg2 arg3 harg3 x0 x1).mem y (xCover c arg2 harg2 arg3 harg3 x0 x1 y)

/-- The whole activation scratch, read after its blocks are stored, is `xDeq`. -/
theorem xRead (c : Dev nD) (arg2 : Memref sig .tc .vmem S1024x7168 .fp8e4m3) (harg2 : arg2.IsWhole)
    (arg3 : Memref sig .tc .vmem S1024x56 .i8) (harg3 : arg3.IsWhole) (arg8 : Memref sig .tc .vmem S1024x7168 .bf16)
    (x0 : Vec Ideal S1024x7168 .fp8e4m3) (x1 : Vec Ideal S1024x56 .i8) :
    kernelRun0_A.sl.v3363 (F := Ideal) c arg2 harg2 arg3 harg3 arg8 x0 x1 = xDeq x0 x1 := by
  unfold kernelRun0_A.sl.v3363
  rw [View.readCov_eq_canon_ld _ _ (Rect.unit ![0, 0] S1024x7168.size inb_S1024x7168_S1024x7168_0_0)
    (xCover c arg2 harg2 arg3 harg3 x0 x1)]
  rw [View.ld_unit_zero (by funext a; fin_cases a <;> rfl), xCanon]

/-- One block of the output: the product of the rows `X` with the weights of column block `j`, plus the residual's block. -/
def outBlock (j : Fin 10) (X : Vec Ideal S1024x7168 .bf16) (x2 : Vec Ideal S7168x512 .fp8e4m3) (x3 : Vec Ideal S56x40 .i32)
    (x4 : Vec Ideal S1024x512 .bf16) : Vec Ideal S1024x512 .bf16 := fun y =>
  ∑ k : Fin 7168, X (ix2 (y 0) k) * wDeq j x2 x3 (ix2 k (y 1)) + x4 y

/-- The stored product, entry by entry. -/
theorem product_eq (X : Vec Ideal S1024x7168 .bf16) (W : Vec Ideal S7168x512 .bf16) (x4 : Vec Ideal S1024x512 .bf16) (y : S1024x512.Idx) :
    k0_pay381 (F := Ideal) X W x4 y = ∑ k : Fin 7168, X (ix2 (y 0) k) * W (ix2 k (y 1)) + x4 y := by
  obtain ⟨r, q, rfl⟩ : ∃ r q, y = ix2 r q := ⟨y 0, y 1, by funext a; fin_cases a <;> rfl⟩
  pointwise [k0_pay381]

/-- A load of a whole staging buffer reads what it holds. -/
theorem load_whole {S : Shape} {e : EltTy} {sp : Space} (X : Memref sig .tc sp S e) (h : X.IsWhole) {off : Fin S.rank → ℕ}
    (ho : off = fun _ => 0) (inb : ∀ a, off a + S.size a ≤ S.size a) (x : Vec Ideal S e) :
    View.readAt (Elt Ideal) X.view (Rect.unit off S.size inb).toLoadRect (h.unread x) = x := by
  funext y
  rw [h.readAt_unread]
  exact congrFun (View.ld_unit_zero ho inb x) y

/-- What the first point of a row block leaves in the carried scratch: its activations with their scales. -/
theorem scratch_A (c : Dev nD) (i : grid0.Coords) (arg2 : Memref sig .tc .vmem S1024x7168 .fp8e4m3) (harg2 : arg2.IsWhole)
    (arg3 : Memref sig .tc .vmem S1024x56 .i8) (harg3 : arg3.IsWhole) (arg4 : Memref sig .tc .vmem S7168x512 .fp8e4m3) (harg4 : arg4.IsWhole)
    (arg5 : Memref sig .tc .smem S56x40 .i32) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x7168 .bf16) (harg8 : arg8.IsWhole)
    (arg9 : Memref sig .tc .vmem S7168x512 .bf16) (harg9 : arg9.IsWhole) (hc0 : cond0_0 i)
    (x0 : Vec Ideal S1024x7168 .fp8e4m3) (x1 : Vec Ideal S1024x56 .i8) (x2 : Vec Ideal S7168x512 .fp8e4m3) (x3 : Vec Ideal S56x40 .i32)
    (x4 : Vec Ideal S1024x512 .bf16) :
    sout0_A_0 (F := Ideal) c i arg2 harg2 arg3 harg3 arg4 harg4 arg5 harg5 arg6 harg6 arg7 harg7 arg8 harg8 arg9 harg9 hc0 x0 x1 x2 x3 x4 = xDeq x0 x1 := by
  unfold sout0_A_0
  rw [View.read_writes_junk_eq_canon]
  exact xCanon c arg2 harg2 arg3 harg3 x0 x1

/-- What the first point of a row block leaves in the output's staging buffer. -/
theorem out_A (c : Dev nD) (i : grid0.Coords) (arg2 : Memref sig .tc .vmem S1024x7168 .fp8e4m3) (harg2 : arg2.IsWhole)
    (arg3 : Memref sig .tc .vmem S1024x56 .i8) (harg3 : arg3.IsWhole) (arg4 : Memref sig .tc .vmem S7168x512 .fp8e4m3) (harg4 : arg4.IsWhole)
    (arg5 : Memref sig .tc .smem S56x40 .i32) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x7168 .bf16) (harg8 : arg8.IsWhole)
    (arg9 : Memref sig .tc .vmem S7168x512 .bf16) (harg9 : arg9.IsWhole) (hc0 : cond0_0 i)
    (x0 : Vec Ideal S1024x7168 .fp8e4m3) (x1 : Vec Ideal S1024x56 .i8) (x2 : Vec Ideal S7168x512 .fp8e4m3) (x3 : Vec Ideal S56x40 .i32)
    (x4 : Vec Ideal S1024x512 .bf16) :
    out0_A_5 (F := Ideal) c i arg2 harg2 arg3 harg3 arg4 harg4 arg5 harg5 arg6 harg6 arg7 harg7 arg8 harg8 arg9 harg9 hc0 x0 x1 x2 x3 x4 = outBlock (i 1) (xDeq x0 x1) x2 x3 x4 := by
  unfold out0_A_5
  rw [View.read_writes_junk_eq_canon]
  unfold kernelRun0_A
  dsimp only
  rw [View.canon_unit_zero (by funext a; fin_cases a <;> rfl)]
  funext y
  unfold kernelRun0_A.sl.r_324
  rw [product_eq, xRead, load_whole arg6 harg6 (by funext a; fin_cases a <;> rfl)]
  rw [show kernelRun0_A.sl.v3364 (F := Ideal) c i arg4 harg4 arg5 harg5 arg9 x2 x3 = wDeq (i 1) x2 x3 from wRead c i arg4 harg4 arg5 harg5 arg9 x2 x3]
  rfl

/-- What a later point of a row block leaves in the output's staging buffer, over the carried scratch. -/
theorem out_B (c : Dev nD) (i : grid0.Coords) (arg2 : Memref sig .tc .vmem S1024x7168 .fp8e4m3) (harg2 : arg2.IsWhole)
    (arg3 : Memref sig .tc .vmem S1024x56 .i8) (harg3 : arg3.IsWhole) (arg4 : Memref sig .tc .vmem S7168x512 .fp8e4m3) (harg4 : arg4.IsWhole)
    (arg5 : Memref sig .tc .smem S56x40 .i32) (harg5 : arg5.IsWhole) (arg6 : Memref sig .tc .vmem S1024x512 .bf16) (harg6 : arg6.IsWhole)
    (arg7 : Memref sig .tc .vmem S1024x512 .bf16) (harg7 : arg7.IsWhole) (arg8 : Memref sig .tc .vmem S1024x7168 .bf16) (harg8 : arg8.IsWhole)
    (arg9 : Memref sig .tc .vmem S7168x512 .bf16) (harg9 : arg9.IsWhole) (hc0 : ¬cond0_0 i)
    (x0 : Vec Ideal S1024x7168 .fp8e4m3) (x1 : Vec Ideal S1024x56 .i8) (x2 : Vec Ideal S7168x512 .fp8e4m3) (x3 : Vec Ideal S56x40 .i32)
    (x4 : Vec Ideal S1024x512 .bf16) (xs0 : Vec Ideal S1024x7168 .bf16) :
    out0_B_5 (F := Ideal) c i arg2 harg2 arg3 harg3 arg4 harg4 arg5 harg5 arg6 harg6 arg7 harg7 arg8 harg8 arg9 harg9 hc0 x0 x1 x2 x3 x4 xs0 = outBlock (i 1) xs0 x2 x3 x4 := by
  unfold out0_B_5
  rw [View.read_writes_junk_eq_canon]
  unfold kernelRun0_B
  dsimp only
  rw [View.canon_unit_zero (by funext a; fin_cases a <;> rfl)]
  funext y
  unfold kernelRun0_B.sl.r_312
  rw [product_eq, wRead, load_whole arg6 harg6 (by funext a; fin_cases a <;> rfl), load_whole arg8 harg8 (by funext a; fin_cases a <;> rfl)]
  rfl

end Cert.Proof

end
-- ==== Proof.Array.lean ====
/- What the kernel's result array holds, entry by entry, in terms of its arguments: the blocks the windows stage, the
   scratch carried over the ten points of a block of rows, and the array the points write. -/
module

public import proofs.«01_k».proof.Proof.Block
public import Idealize.ShloMosaic.Lib.Claim
public import Idealize.ShloMosaic.Lib.Pipeline.ValueKit

@[expose] public section

noncomputable section

namespace Cert.Proof

open Idealize.ShloMosaic Idealize.ShloMosaic.TcCoe Idealize.ShloMosaic.Tactic
open Cert.KernelIdeal Cert.KernelIdeal.Gen Cert.KernelIdeal.Value

/-- The batch entry of a row of the flattened array. -/
abbrev rowB (r : Fin 24576) : Fin 6 := ⟨r.val / 4096, by omega⟩

/-- The position in its batch entry of a row of the flattened array. -/
abbrev rowS (r : Fin 24576) : Fin 4096 := ⟨r.val % 4096, by omega⟩

/-- The result both programs compute: at row `r` and column `c`, the sum over `k` of the activation times its group's scale
    times the weight times its tile's scale, plus the residual. -/
def result (a0 : Vec Ideal S6x4096x7168 .fp8e4m3) (a1 : Vec Ideal S6x4096x56 .i8) (a2 : Vec Ideal S7168x5120 .fp8e4m3)
    (a3 : Vec Ideal S56x40 .i8) (a4 : Vec Ideal S6x4096x5120 .bf16) (r : Fin 24576) (c : Fin 5120) : EReal :=
  ∑ k : Fin 7168, (a0 (ix3 (rowB r) (rowS r) k) * scale (a1 (ix3 (rowB r) (rowS r) ⟨k.val / 128, by omega⟩)))
      * (a2 (ix2 k c) * scale (a3 (ix2 ⟨k.val / 128, by omega⟩ ⟨c.val / 128, by omega⟩)))
    + a4 (ix3 (rowB r) (rowS r) c)

variable (m : (ℓ : Loc nD τ sig) → Buf (Elt Ideal) ℓ) (c : Dev nD)

/-- The block of activations a point stages: the block of rows the point is in. -/
theorem index0 : ∀ t : Fin cfg0.N, win0_0.index t = ![t.val / 10, 0] := (by decide +kernel : ∀ t : Fin grid0.N, _)
/-- The block of activation exponents a point stages: the same rows. -/
theorem index1 : ∀ t : Fin cfg0.N, win0_1.index t = ![t.val / 10, 0] := (by decide +kernel : ∀ t : Fin grid0.N, _)
/-- The block of weights a point stages: the point's block of columns. -/
theorem index2 : ∀ t : Fin cfg0.N, win0_2.index t = ![0, t.val % 10] := (by decide +kernel : ∀ t : Fin grid0.N, _)
/-- The weights' exponents are staged whole. -/
theorem index3 : ∀ t : Fin cfg0.N, win0_3.index t = ![0, 0] := (by decide +kernel : ∀ t : Fin grid0.N, _)
/-- The block of the residual a point stages. -/
theorem index4 : ∀ t : Fin cfg0.N, win0_4.index t = ![t.val / 10, t.val % 10] := (by decide +kernel : ∀ t : Fin grid0.N, _)
/-- The second grid coordinate of a point: its block of columns. -/
theorem coord1 : ∀ t : Fin cfg0.N, (grid0.coords t 1).val = t.val % 10 := (by decide +kernel : ∀ t : Fin grid0.N, _)

/-- A point's row block and a row in it are a row of the array. -/
abbrev row (q : Fin 24) (r : Fin 1024) : Fin 24576 := ⟨q.val * 1024 + r.val, by omega⟩

/-- A point's column block and a column in it are a column of the array. -/
abbrev col (j : Fin 10) (n : Fin 512) : Fin 5120 := ⟨j.val * 512 + n.val, by omega⟩

/-- The activations as the kernel finds them: the argument with its two leading axes flattened. -/
theorem entry_x (r : Fin 24576) (k : Fin 7168) :
    (V m c main_v0 : Vec Ideal S24576x7168 .fp8e4m3) (ix2 r k)
      = (m ((c : Thread nD τ).loc main_arg0) : Vec Ideal S6x4096x7168 .fp8e4m3) (ix3 (rowB r) (rowS r) k) := by
  entry_read
  pointwise []

/-- The activations' exponents likewise. -/
theorem entry_xs (r : Fin 24576) (g : Fin 56) :
    (V m c main_v1 : Vec Ideal S24576x56 .i8) (ix2 r g)
      = (m ((c : Thread nD τ).loc main_arg1) : Vec Ideal S6x4096x56 .i8) (ix3 (rowB r) (rowS r) g) := by
  entry_read
  pointwise []

/-- The residual likewise. -/
theorem entry_r (r : Fin 24576) (k : Fin 5120) :
    (V m c main_v2 : Vec Ideal S24576x5120 .bf16) (ix2 r k)
      = (m ((c : Thread nD τ).loc main_arg4) : Vec Ideal S6x4096x5120 .bf16) (ix3 (rowB r) (rowS r) k) := by
  entry_read
  pointwise []

/-- The weights' exponents as the kernel finds them: each byte extended to a word. -/
theorem entry_ws (p : Fin 56) (q : Fin 40) :
    (V m c main_v3 : Vec Ideal S56x40 .i32) (ix2 p q)
      = BitVec.setWidth 32 ((m ((c : Thread nD τ).loc main_arg3) : Vec Ideal S56x40 .i8) (ix2 p q)) := by
  entry_read
  pointwise []

/-- The activations staged at a point of row block `q`. -/
theorem block_x (t : Fin cfg0.N) (q : Fin 24) (hq : t.val / 10 = q.val) (r : Fin 1024) (k : Fin 7168) :
    (iblk m c 0 t : Vec Ideal S1024x7168 .fp8e4m3) (ix2 r k)
      = (V m c main_v0 : Vec Ideal S24576x7168 .fp8e4m3) (ix2 (row q r) k) := by
  blk_ext [iblk, index0 t, hq]

/-- The activations' exponents staged at a point of row block `q`. -/
theorem block_xs (t : Fin cfg0.N) (q : Fin 24) (hq : t.val / 10 = q.val) (r : Fin 1024) (g : Fin 56) :
    (iblk m c 1 t : Vec Ideal S1024x56 .i8) (ix2 r g)
      = (V m c main_v1 : Vec Ideal S24576x56 .i8) (ix2 (row q r) g) := by
  blk_ext [iblk, index1 t, hq]

/-- The weights staged at a point of column block `j`. -/
theorem block_w (t : Fin cfg0.N) (j : Fin 10) (hj : t.val % 10 = j.val) (k : Fin 7168) (n : Fin 512) :
    (iblk m c 2 t : Vec Ideal S7168x512 .fp8e4m3) (ix2 k n)
      = (V m c main_arg2 : Vec Ideal S7168x5120 .fp8e4m3) (ix2 k (col j n)) := by
  blk_ext [iblk, index2 t, hj]

/-- The weights' exponents, staged whole. -/
theorem block_ws (t : Fin cfg0.N) (p : Fin 56) (q : Fin 40) :
    (iblk m c 3 t : Vec Ideal S56x40 .i32) (ix2 p q) = (V m c main_v3 : Vec Ideal S56x40 .i32) (ix2 p q) := by
  blk_ext [iblk, index3 t]

/-- The residual staged at a point of row block `q` and column block `j`. -/
theorem block_r (t : Fin cfg0.N) (q : Fin 24) (hq : t.val / 10 = q.val) (j : Fin 10) (hj : t.val % 10 = j.val)
    (r : Fin 1024) (n : Fin 512) :
    (iblk m c 4 t : Vec Ideal S1024x512 .bf16) (ix2 r n)
      = (V m c main_v2 : Vec Ideal S24576x5120 .bf16) (ix2 (row q r) (col j n)) := by
  blk_ext [iblk, index4 t, hq, hj]

/-- The activations with their scales, of the block staged at a point. -/
abbrev xAt (t : Fin cfg0.N) : Vec Ideal S1024x7168 .bf16 := xDeq (iblk m c 0 t) (iblk m c 1 t)

/-- They depend on the point's row block only. -/
theorem xAt_congr (t t' : Fin cfg0.N) (h : t.val / 10 = t'.val / 10) : xAt m c t = xAt m c t' := by
  have hN := lt_of_lt_of_eq t.isLt (show cfg0.N = 240 from N_0)
  let q : Fin 24 := ⟨t.val / 10, by omega⟩
  funext y
  obtain ⟨r, k, rfl⟩ : ∃ r k, y = ix2 r k := ⟨y 0, y 1, by funext a; fin_cases a <;> rfl⟩
  show xDeq _ _ (ix2 r k) = xDeq _ _ (ix2 r k)
  rw [xDeq_apply, xDeq_apply, block_x m c t q rfl, block_x m c t' q h.symm, block_xs m c t q rfl, block_xs m c t' q h.symm]

/-- The carried scratch after any point: the activations with their scales of the point's row block. -/
theorem carried : ∀ (n : ℕ) (hn : n < cfg0.N), (outsAt0 m c n hn).2 = xAt m c ⟨n, hn⟩
  | n, hn => by
    by_cases h0 : n % 10 = 0
    · rw [outsAt0_A m c ⟨n, hn⟩ h0]
      dsimp only
      exact scratch_A _ _ _ _ _ _ _ _ _ _ _ _ _ _ _ _ _ _ _ _ _ _ _ _
    · rw [outsAt0_B m c ⟨n, hn⟩ h0]
      dsimp only
      unfold sout0_B_0
      rw [carried (n - 1)]
      exact xAt_congr m c _ _ (by show (n - 1) / 10 = n / 10; omega)
  termination_by n => n
  decreasing_by omega

/-- The output's staging buffer after any point: the point's output block. -/
theorem staged (t : Fin cfg0.N) :
    (outsAt0 m c t.val t.isLt).1
      = outBlock (grid0.coords t 1) (xAt m c t) (iblk m c 2 t) (iblk m c 3 t) (iblk m c 4 t) := by
  by_cases h0 : t.val % 10 = 0
  · rw [outsAt0_A m c t h0]
    dsimp only
    exact out_A _ _ _ _ _ _ _ _ _ _ _ _ _ _ _ _ _ _ _ _ _ _ _ _
  · rw [outsAt0_B m c t h0]
    dsimp only
    refine (out_B _ _ _ _ _ _ _ _ _ _ _ _ _ _ _ _ _ _ _ _ _ _ _ _ _).trans ?_
    rw [carried]
    rw [xAt_congr m c ⟨t.val - 1, _⟩ t (by show (t.val - 1) / 10 = t.val / 10; omega)]

/-- An entry of a point's output block is the result at the entry's place in the array. -/
theorem block_result (t : Fin cfg0.N) (q : Fin 24) (hq : t.val / 10 = q.val) (j : Fin 10) (hj : t.val % 10 = j.val)
    (r : Fin 1024) (n : Fin 512) :
    outBlock (grid0.coords t 1) (xAt m c t) (iblk m c 2 t) (iblk m c 3 t) (iblk m c 4 t) (ix2 r n)
      = result (m ((c : Thread nD τ).loc main_arg0)) (m ((c : Thread nD τ).loc main_arg1)) (m ((c : Thread nD τ).loc main_arg2))
          (m ((c : Thread nD τ).loc main_arg3)) (m ((c : Thread nD τ).loc main_arg4)) (row q r) (col j n) := by
  have hc : grid0.coords t 1 = j := Fin.ext ((coord1 t).trans hj)
  rw [hc]
  refine congrArg₂ (· + ·) (Finset.sum_congr rfl fun k _ => congrArg₂ (· * ·) ?_ ?_) ?_
  · show xDeq _ _ (ix2 r k) = _
    rw [xDeq_apply, block_x m c t q hq, block_xs m c t q hq, entry_x, entry_xs]
  · show wDeq j _ _ (ix2 k n) = _
    rw [wDeq_apply, block_w m c t j hj, block_ws, entry_ws, V_main_arg2]
    refine congrArg₂ (· * ·) rfl (congrArg scale (congrArg _ ?_))
    refine congrArg (ix2 _) (Fin.ext ?_)
    show 4 * j.val + n.val / 128 = (j.val * 512 + n.val) / 128
    omega
  · show (iblk m c 4 t : Vec Ideal S1024x512 .bf16) (ix2 r n) = _
    rw [block_r m c t q hq j hj, entry_r]

/-- THE ARRAY the kernel leaves: the result, at every row and column. -/
theorem kernel_value (r : Fin 24576) (n : Fin 5120) :
    (G5 m c : Vec Ideal S24576x5120 .bf16) (ix2 r n)
      = result (m ((c : Thread nD τ).loc main_arg0)) (m ((c : Thread nD τ).loc main_arg1)) (m ((c : Thread nD τ).loc main_arg2))
          (m ((c : Thread nD τ).loc main_arg3)) (m ((c : Thread nD τ).loc main_arg4)) r n := by
  have hp : pt5Of (ix2 r n) = 10 * (r.val / 1024) + n.val / 512 := by
    show 10 * (r.val / 1024 - 0) + 1 * (n.val / 512 - 0) = _
    omega
  have hlt : pt5Of (ix2 r n) < cfg0.N := by rw [hp]; exact lt_of_lt_of_eq (by omega) N_0.symm
  show G5 m c (ix2 r n) = _
  unfold G5
  rw [dif_pos hlt, ← outsAt0_sweep m c _ hlt, staged m c ⟨_, hlt⟩]
  have hl : loc5Of (ix2 r n) = ix2 (⟨r.val % 1024, by omega⟩ : Fin 1024) (⟨n.val % 512, by omega⟩ : Fin 512) := by
    funext a; fin_cases a <;> rfl
  rw [hl, block_result m c ⟨_, hlt⟩ ⟨r.val / 1024, by omega⟩ (by show pt5Of (ix2 r n) / 10 = _; rw [hp]; show _ = r.val / 1024; omega)
    ⟨n.val / 512, by omega⟩ (by show pt5Of (ix2 r n) % 10 = _; rw [hp]; show _ = n.val / 512; omega)]
  congr 1
  · exact Fin.ext (by show r.val / 1024 * 1024 + r.val % 1024 = r.val; omega)
  · exact Fin.ext (by show n.val / 512 * 512 + n.val % 512 = n.val; omega)

end Cert.Proof

end
-- ==== Proof.RefValue.lean ====
/- What the reference computes, entry by entry: the same result, its scales the powers of two that the decoded exponents
   name. -/
module

public import proofs.«01_k».proof.Proof.Array
public import proofs.«01_k».proof.Proof.Gen.ReferenceIdeal.Value

@[expose] public section

noncomputable section

namespace Cert.Proof

open Idealize.ShloMosaic Idealize.ShloMosaic.TcCoe Idealize.ShloMosaic.Tactic
open Cert.ReferenceIdeal

/-- The weights' scales, decoded. -/
theorem ref_ws (a3 : Vec Ideal S56x40 .i8) (p : Fin 56) (q : Fin 40) :
    Cert.ReferenceIdeal.Gen.k0_pay2 (F := Ideal) a3 (ix2 p q) = scale (a3 (ix2 p q)) := by
  rw [← decode_eq_scale]
  pointwise [Cert.ReferenceIdeal.Gen.k0_pay2]
  rfl

/-- A product with a choice between 0 and another factor. -/
theorem mul_select_zero (p : BitVec 1) (a x : EReal) : a * Scalar.select p 0 x = Scalar.select p 0 (a * x) := by
  unfold Scalar.select
  split <;> simp

/-- The activations with their decoded scales, in groups of 128. -/
theorem ref_x (a0 : Vec Ideal S6x4096x7168 .fp8e4m3) (a1 : Vec Ideal S6x4096x56 .i8) (b : Fin 6) (s : Fin 4096) (g : Fin 56) (k : Fin 128) :
    Cert.ReferenceIdeal.Gen.k0_pay3 (F := Ideal) a0 a1 (ix4 b s g k)
      = a0 (ix3 b s ⟨g.val * 128 + k.val, by omega⟩) * scale (a1 (ix3 b s g)) := by
  rw [← decode_eq_scale]
  pointwise [Cert.ReferenceIdeal.Gen.k0_pay3]
  exact (mul_select_zero _ _ _).symm

/-- THE REFERENCE's result, at every row and column. -/
theorem reference_value (a0 : Vec Ideal S6x4096x7168 .fp8e4m3) (a1 : Vec Ideal S6x4096x56 .i8) (a2 : Vec Ideal S7168x5120 .fp8e4m3)
    (a3 : Vec Ideal S56x40 .i8) (a4 : Vec Ideal S6x4096x5120 .bf16) (r : Fin 24576) (n : Fin 5120) :
    (Cert.ReferenceIdeal.Value.G5 (F := Ideal) a0 a1 a2 a3 a4 : Vec Ideal S24576x5120 .bf16) (ix2 r n) = result a0 a1 a2 a3 a4 r n := by
  unfold Cert.ReferenceIdeal.Value.G5
  pointwise [Cert.ReferenceIdeal.Gen.k0_pay1]
  refine congrArg₂ (· + ·) (Finset.sum_congr rfl fun k _ => congrArg₂ (· * ·) ?_ ?_) rfl
  · rw [ref_x]
    refine congrArg₂ (· * ·) (congrArg a0 (congrArg (ix3 _ _) (Fin.ext ?_))) rfl
    show k.val / 128 * 128 + k.val % 128 = k.val
    omega
  · rw [ref_ws]

end Cert.Proof

end
-- ==== Proof.lean ====
/- The certificate: the three programs run without touching their arguments, the kernel is its own idealization, and over
   exact arithmetic the kernel's result is the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- THE EQUATION: on the same arguments the reference's array is the one the kernel leaves, at every index. -/
theorem arrays_eq (m : (ℓ : Loc Cert.KernelIdeal.nD Cert.KernelIdeal.τ Cert.KernelIdeal.sig) → Buf (Elt Ideal) ℓ) (c : Dev Cert.KernelIdeal.nD) :
    (Cert.ReferenceIdeal.Value.G5 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) : Vec Ideal Cert.KernelIdeal.S24576x5120 .bf16)
      = Cert.KernelIdeal.Value.G5 (F := Ideal) m c := by
  funext y
  obtain ⟨r, n, rfl⟩ : ∃ r n, y = ix2 r n := ⟨y 0, y 1, by funext a; fin_cases a <;> rfl⟩
  exact (reference_value _ _ _ _ _ r n).trans (kernel_value m c r n).symm

/-- Over exact arithmetic, from equal arguments, the kernel and the reference end with equal results and unchanged
    arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G5 (F := Ideal) m c, Cert.KernelIdeal.Value.run (F := Ideal) m g, ?_⟩
  refine (θ_run (Cert.ReferenceIdeal.defs (F := Ideal)) _ _).mono (fun r h c => ?_) (Cert.ReferenceIdeal.Value.run (F := Ideal) m' g')
  obtain ⟨hv, h0, h1, h2, h3, h4⟩ := h c
  refine ⟨hv.trans ?_, h0, h1, h2, h3, h4⟩
  obtain ⟨e0, e1, e2, e3, e4⟩ := hargs c
  rw [e0, e1, e2, e3, e4]
  exact arrays_eq m c

/-- The claim: every program leaves its arguments unchanged and runs to its end, the idealization preserves the kernel, and
    the kernel's result is the reference's. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, fun m g _ => Cert.ReferenceIdeal.Gen.frame m g,
    trivial, algebraic⟩

end Cert.Proof

end
